-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Reference [hPre_in_range : Cert.Pre_in_range.Facts] (m : (ℓ : Loc Cert.Reference.nD Cert.Reference.τ Cert.Reference.sig) → Buf (Elt Bits) ℓ) : Prop :=
  ∀ c : Dev Cert.Reference.nD,
    (Cert.Pre_in_range.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] [hPre_in_range : Cert.Pre_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def bitexact_Kernel_Reference [hKernel : Cert.Kernel.Facts] [hReference : Cert.Reference.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v0)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def Claim : Prop :=
  ∃ (hKernel : Cert.Kernel.Facts) (hKernelIdeal : Cert.KernelIdeal.Facts) (hReferenceIdeal : Cert.ReferenceIdeal.Facts) (hReference : Cert.Reference.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Reference (hReference := hReference) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
    ∧ bitexact_Kernel_Reference (hKernel := hKernel) (hReference := hReference) (hPre_in_range := hPre_in_range)
-- ==== Pre_in_range.lean ====
abbrev S4096 : Shape := ⟨1, ![4096]⟩
abbrev S10 : Shape := ⟨1, ![10]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel

variable [Facts]

def fn {F : FTy → Type} [FloatOps F] (main_arg0 : IVec S4096 32) (main_arg1 : FVec F S4096 .f32) (main_arg2 : FVec F S10 .f32) : IVec S_ 1 :=
  let main_c : IVec S_ 32 := constantI S_ 32 0#32
  let main_v0 : IVec S4096 32 := broadcastInDim S4096 ![] bcast_S_S4096 main_c
  let main_v1 : IVec S4096 1 := cmpi .sge main_arg0 main_v0
  let main_c_0 : IVec S_ 1 := constantI S_ 1 1#1
  let main_v2 : IVec S_ 1 := (fun x v => Host.reduce IntOp.andi x v reducesTo_S4096_S_d0 h_S_) main_v1 main_c_0
  let main_c_1 : IVec S_ 32 := constantI S_ 32 10#32
  let main_v3 : IVec S4096 32 := broadcastInDim S4096 ![] bcast_S_S4096 main_c_1
  let main_v4 : IVec S4096 1 := cmpi .slt main_arg0 main_v3
  let main_c_2 : IVec S_ 1 := constantI S_ 1 1#1
  let main_v5 : IVec S_ 1 := (fun x v => Host.reduce IntOp.andi x v reducesTo_S4096_S_d0 h_S_) main_v4 main_c_2
  let main_v6 : IVec S_ 1 := andi main_v2 main_v5
  main_v6
-- ==== Kernel.lean ====
abbrev S4096 : Shape := ⟨1, ![4096]⟩
abbrev S10 : Shape := ⟨1, ![10]⟩
abbrev S16 : Shape := ⟨1, ![16]⟩
abbrev S256 : Shape := ⟨1, ![256]⟩
abbrev S_ : Shape := ⟨0, ![]⟩
abbrev S128 : Shape := ⟨1, ![128]⟩

abbrev nBuf : Table → Nat
  | .hbm => 4
  | .local .scVector .vmem => 3
  | _ => 0

abbrev bufTy : (tb : Table) → Fin (nBuf tb) → BufTy
  | .hbm, ⟨0, _⟩ => ⟨S4096, .i32⟩
  | .hbm, ⟨1, _⟩ => ⟨S4096, .f32⟩
  | .hbm, ⟨2, _⟩ => ⟨S10, .f32⟩
  | .hbm, ⟨3, _⟩ => ⟨S4096, .f32⟩
  | .local .scVector .vmem, ⟨0, _⟩ => ⟨S16, .f32⟩
  | .local .scVector .vmem, ⟨1, _⟩ => ⟨S256, .i32⟩
  | .local .scVector .vmem, ⟨2, _⟩ => ⟨S256, .f32⟩
  | _, _ => ⟨S4096, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg2_scv : Ref sig .scVector := ⟨.hbm, 2, rfl⟩
abbrev main_arg0_scv : Ref sig .scVector := ⟨.hbm, 0, rfl⟩
abbrev main_v0_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_off1 (i : grid0.Coords) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c256_i32 : BitVec 32 := 256#32
  let v2 : BitVec 32 := Scalar.muli v1 c256_i32
  ![v2.toNat]

def k0_chk1 (v11 : IVec S16 32) : Prop :=
  (∀ a x, ((![v11] : Fin 1 → IVec S16 32) a x).toNat < S16.size a)
theorem k0_idx1_inb : ∀ (v11 : IVec S16 32) (k0_hw1 : k0_chk1 v11), ∀ a x, ((![v11] : Fin 1 → IVec S16 32) a x).toNat < S16.size a := fun v11 k0_hw1 => k0_hw1

def k0_chk2 (v14 : IVec S16 32) : Prop :=
  (∀ a x, ((![v14] : Fin 1 → IVec S16 32) a x).toNat < S16.size a)
theorem k0_idx2_inb : ∀ (v14 : IVec S16 32) (k0_hw2 : k0_chk2 v14), ∀ a x, ((![v14] : Fin 1 → IVec S16 32) a x).toNat < S16.size a := fun v14 k0_hw2 => k0_hw2

def k0_chk3 (v17 : IVec S16 32) : Prop :=
  (∀ a x, ((![v17] : Fin 1 → IVec S16 32) a x).toNat < S16.size a)
theorem k0_idx3_inb : ∀ (v17 : IVec S16 32) (k0_hw3 : k0_chk3 v17), ∀ a x, ((![v17] : Fin 1 → IVec S16 32) a x).toNat < S16.size a := fun v17 k0_hw3 => k0_hw3

def k0_chk4 (v20 : IVec S16 32) : Prop :=
  (∀ a x, ((![v20] : Fin 1 → IVec S16 32) a x).toNat < S16.size a)
theorem k0_idx4_inb : ∀ (v20 : IVec S16 32) (k0_hw4 : k0_chk4 v20), ∀ a x, ((![v20] : Fin 1 → IVec S16 32) a x).toNat < S16.size a := fun v20 k0_hw4 => k0_hw4

def k0_chk5 (v23 : IVec S16 32) : Prop :=
  (∀ a x, ((![v23] : Fin 1 → IVec S16 32) a x).toNat < S16.size a)
theorem k0_idx5_inb : ∀ (v23 : IVec S16 32) (k0_hw5 : k0_chk5 v23), ∀ a x, ((![v23] : Fin 1 → IVec S16 32) a x).toNat < S16.size a := fun v23 k0_hw5 => k0_hw5

def k0_chk6 (v26 : IVec S16 32) : Prop :=
  (∀ a x, ((![v26] : Fin 1 → IVec S16 32) a x).toNat < S16.size a)
theorem k0_idx6_inb : ∀ (v26 : IVec S16 32) (k0_hw6 : k0_chk6 v26), ∀ a x, ((![v26] : Fin 1 → IVec S16 32) a x).toNat < S16.size a := fun v26 k0_hw6 => k0_hw6

def k0_chk7 (v29 : IVec S16 32) : Prop :=
  (∀ a x, ((![v29] : Fin 1 → IVec S16 32) a x).toNat < S16.size a)
theorem k0_idx7_inb : ∀ (v29 : IVec S16 32) (k0_hw7 : k0_chk7 v29), ∀ a x, ((![v29] : Fin 1 → IVec S16 32) a x).toNat < S16.size a := fun v29 k0_hw7 => k0_hw7

def k0_chk8 (v32 : IVec S16 32) : Prop :=
  (∀ a x, ((![v32] : Fin 1 → IVec S16 32) a x).toNat < S16.size a)
theorem k0_idx8_inb : ∀ (v32 : IVec S16 32) (k0_hw8 : k0_chk8 v32), ∀ a x, ((![v32] : Fin 1 → IVec S16 32) a x).toNat < S16.size a := fun v32 k0_hw8 => k0_hw8
def k0_off2 (i : grid0.Coords) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c256_i32 : BitVec 32 := 256#32
  let v2 : BitVec 32 := Scalar.muli v1 c256_i32
  ![v2.toNat]

def k0_chk9 (v39 : IVec S16 32) : Prop :=
  (∀ a x, ((![v39] : Fin 1 → IVec S16 32) a x).toNat < S16.size a)
theorem k0_idx9_inb : ∀ (v39 : IVec S16 32) (k0_hw9 : k0_chk9 v39), ∀ a x, ((![v39] : Fin 1 → IVec S16 32) a x).toNat < S16.size a := fun v39 k0_hw9 => k0_hw9

def k0_chk10 (v42 : IVec S16 32) : Prop :=
  (∀ a x, ((![v42] : Fin 1 → IVec S16 32) a x).toNat < S16.size a)
theorem k0_idx10_inb : ∀ (v42 : IVec S16 32) (k0_hw10 : k0_chk10 v42), ∀ a x, ((![v42] : Fin 1 → IVec S16 32) a x).toNat < S16.size a := fun v42 k0_hw10 => k0_hw10

def k0_chk11 (v45 : IVec S16 32) : Prop :=
  (∀ a x, ((![v45] : Fin 1 → IVec S16 32) a x).toNat < S16.size a)
theorem k0_idx11_inb : ∀ (v45 : IVec S16 32) (k0_hw11 : k0_chk11 v45), ∀ a x, ((![v45] : Fin 1 → IVec S16 32) a x).toNat < S16.size a := fun v45 k0_hw11 => k0_hw11

def k0_chk12 (v48 : IVec S16 32) : Prop :=
  (∀ a x, ((![v48] : Fin 1 → IVec S16 32) a x).toNat < S16.size a)
theorem k0_idx12_inb : ∀ (v48 : IVec S16 32) (k0_hw12 : k0_chk12 v48), ∀ a x, ((![v48] : Fin 1 → IVec S16 32) a x).toNat < S16.size a := fun v48 k0_hw12 => k0_hw12

def k0_chk13 (v51 : IVec S16 32) : Prop :=
  (∀ a x, ((![v51] : Fin 1 → IVec S16 32) a x).toNat < S16.size a)
theorem k0_idx13_inb : ∀ (v51 : IVec S16 32) (k0_hw13 : k0_chk13 v51), ∀ a x, ((![v51] : Fin 1 → IVec S16 32) a x).toNat < S16.size a := fun v51 k0_hw13 => k0_hw13

def k0_chk14 (v54 : IVec S16 32) : Prop :=
  (∀ a x, ((![v54] : Fin 1 → IVec S16 32) a x).toNat < S16.size a)
theorem k0_idx14_inb : ∀ (v54 : IVec S16 32) (k0_hw14 : k0_chk14 v54), ∀ a x, ((![v54] : Fin 1 → IVec S16 32) a x).toNat < S16.size a := fun v54 k0_hw14 => k0_hw14

def k0_chk15 (v57 : IVec S16 32) : Prop :=
  (∀ a x, ((![v57] : Fin 1 → IVec S16 32) a x).toNat < S16.size a)
theorem k0_idx15_inb : ∀ (v57 : IVec S16 32) (k0_hw15 : k0_chk15 v57), ∀ a x, ((![v57] : Fin 1 → IVec S16 32) a x).toNat < S16.size a := fun v57 k0_hw15 => k0_hw15

def k0_chk16 (v60 : IVec S16 32) : Prop :=
  (∀ a x, ((![v60] : Fin 1 → IVec S16 32) a x).toNat < S16.size a)
theorem k0_idx16_inb : ∀ (v60 : IVec S16 32) (k0_hw16 : k0_chk16 v60), ∀ a x, ((![v60] : Fin 1 → IVec S16 32) a x).toNat < S16.size a := fun v60 k0_hw16 => k0_hw16
def k0_off3 (i : grid0.Coords) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c256_i32 : BitVec 32 := 256#32
  let v2 : BitVec 32 := Scalar.muli v1 c256_i32
  let c128_i32 : BitVec 32 := 128#32
  let v63 : BitVec 32 := Scalar.addi v2 c128_i32
  ![v63.toNat]
def k0_off4 (i : grid0.Coords) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c256_i32 : BitVec 32 := 256#32
  let v2 : BitVec 32 := Scalar.muli v1 c256_i32
  ![v2.toNat]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S4096 : Shape := ⟨1, ![4096]⟩
abbrev S10 : Shape := ⟨1, ![10]⟩
abbrev S_ : Shape := ⟨0, ![]⟩
abbrev S4096x1 : Shape := ⟨2, ![4096, 1]⟩
abbrev S1 : Shape := ⟨1, ![1]⟩
abbrev S1x1 : Shape := ⟨2, ![1, 1]⟩

abbrev nBuf : Space → Nat
  | .hbm => 25
  | .vmem => 0
  | .smem => 0
  | _ => 0

abbrev bufTy : (tb : Table) → Fin (tcTables nBuf tb) → BufTy
  | .hbm, ⟨0, _⟩ => ⟨S4096, .i32⟩
  | .hbm, ⟨1, _⟩ => ⟨S4096, .f32⟩
  | .hbm, ⟨2, _⟩ => ⟨S10, .f32⟩
  | .hbm, ⟨3, _⟩ => ⟨S_, .i32⟩
  | .hbm, ⟨4, _⟩ => ⟨S4096, .i32⟩
  | .hbm, ⟨5, _⟩ => ⟨S4096, .i1⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S4096x1, .i32⟩
  | .hbm, ⟨11, _⟩ => ⟨S1, .i32⟩
  | .hbm, ⟨12, _⟩ => ⟨S_, .i32⟩
  | .hbm, ⟨13, _⟩ => ⟨S4096x1, .i32⟩
  | .hbm, ⟨14, _⟩ => ⟨S4096x1, .i1⟩
  | .hbm, ⟨15, _⟩ => ⟨S1x1, .i32⟩
  | .hbm, ⟨16, _⟩ => ⟨S4096x1, .i32⟩
  | .hbm, ⟨17, _⟩ => ⟨S4096x1, .i1⟩
  | .hbm, ⟨18, _⟩ => ⟨S4096x1, .i1⟩
  | .hbm, ⟨19, _⟩ => ⟨S_, .i1⟩
  | .hbm, ⟨20, _⟩ => ⟨S4096, .i1⟩
  | .hbm, ⟨21, _⟩ => ⟨S4096, .f32⟩
  | .hbm, ⟨22, _⟩ => ⟨S_, .f32⟩
  | .hbm, ⟨23, _⟩ => ⟨S4096, .f32⟩
  | .hbm, ⟨24, _⟩ => ⟨S4096, .f32⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Body.lean ====
/-
  The vector-subcore body of `KernelIdeal`, regrouped: two fetches, sixteen *chunks* of sixteen lanes, the two halves of
  the result written out. A chunk loads sixteen words, gathers the table at them and stores what it gathered;
  the printed body is the chunks in order, its first copy-out issued after the eighth (`body_eq`).
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Batch
public import Idealize.ShloMosaic.Lib.Tactic
public import proofs.«01_k».proof.Proof.Gen.KernelIdeal
public import proofs.«01_k».proof.Proof.Gen.KernelIdeal.Skeleton

@[expose] public section

noncomputable section

namespace Cert.Proof.Lookup

open Cert.KernelIdeal Cert.KernelIdeal.Gen

open Idealize.ShloMosaic
open Idealize.SL.Sem

variable {F : FTy → Type} [FloatOps F]

/-! ## The task's arrays -/

/-- The ten floats, the words, the result: the whole arrays. -/
abbrev pV : Memref sig .scVector .hbm S10 .f32 := Memref.whole main_arg2_scv
abbrev wV : Memref sig .scVector .hbm S4096 .i32 := Memref.whole main_arg0_scv
abbrev rV : Memref sig .scVector .hbm S4096 .f32 := Memref.whole main_v0_scv
/-- A task's scratch: its copy of the table, its words, what it gathered. -/
abbrev tS : Memref sig .scVector .vmem S16 .f32 := Memref.whole cc0_scratch0
abbrev wS : Memref sig .scVector .vmem S256 .i32 := Memref.whole cc0_scratch1
abbrev oS : Memref sig .scVector .vmem S256 .f32 := Memref.whole cc0_scratch2

/-- The first ten entries of the table's scratch. -/
abbrev tTop : Memref sig .scVector .vmem S10 .f32 := tS.slice (Rect.unit (s := S16) ![0] S10.size inb_S16_S10_0) (fun _ => rfl)
/-- A task's block of the words. -/
abbrev wBlk (L : grid0.Coords) : Memref sig .scVector .hbm S256 .i32 := wV.slice (Rect.unit (s := S4096) (k0_off1 L) S256.size (k0_off1_inb L)) (fun _ => rfl)
/-- The two halves of the output scratch and of the task's block of the result. -/
abbrev oLo : Memref sig .scVector .vmem S128 .f32 := oS.slice (Rect.unit (s := S256) ![0] S128.size inb_S256_S128_0) (fun _ => rfl)
abbrev oHi : Memref sig .scVector .vmem S128 .f32 := oS.slice (Rect.unit (s := S256) ![128] S128.size inb_S256_S128_128) (fun _ => rfl)
abbrev rLo (L : grid0.Coords) : Memref sig .scVector .hbm S128 .f32 := rV.slice (Rect.unit (s := S4096) (k0_off2 L) S128.size (k0_off2_inb L)) (fun _ => rfl)
abbrev rLo' (L : grid0.Coords) : Memref sig .scVector .hbm S128 .f32 := rV.slice (Rect.unit (s := S4096) (k0_off4 L) S128.size (k0_off4_inb L)) (fun _ => rfl)
abbrev rHi (L : grid0.Coords) : Memref sig .scVector .hbm S128 .f32 := rV.slice (Rect.unit (s := S4096) (k0_off3 L) S128.size (k0_off3_inb L)) (fun _ => rfl)

/-! ## A chunk -/

theorem chunk_inb (j : Fin 16) : ∀ a, (![16 * j.val] : Fin 1 → Nat) a + S16.size a ≤ S256.size a := by
  intro a; have := j.isLt; fin_cases a; show 16 * j.val + 16 ≤ 256; omega

/-- Chunk `j` of a 256-long scratch: its entries `16 j` to `16 j + 15`. -/
abbrev win (j : Fin 16) : Rect S256 := Rect.unit (s := S256) ![16 * j.val] S16.size (chunk_inb j)

/-- Chunk `j`: its sixteen words loaded, the table gathered at them, the result stored (after a load of what was there,
    which nothing reads). -/
def chunk (c : Fin τ.nSC) (i : Fin τ.nSub) (j : Fin 16) : Prog (TpuEff nD τ sig (Elt F) Λ₀ (.scVector c i)) PUnit := do
  let v : Vec F S16 .i32 ← Prog.lift (.load wS (win j).toLoadRect (View.loadsAt_vmem h_S16))
  have h : k0_chk1 v := (← Prog.lift (TpuEff.assume (k0_chk1 v) (k0_chk1.dec v))).down
  let g : Vec F S16 .f32 ← SparseCore.vectorLoadIdx tS ![v] (k0_idx1_inb v h) (View.loads_vmem h_S16)
  let _ : Vec F S16 .f32 ← Prog.lift (.load oS (win j).toLoadRect (View.loadsAt_vmem h_S16))
  Prog.lift (.store oS (win j) g Finset.univ (View.stores_vmem_bits_univ h_S16 rfl) (.inl rfl))

/-- Chunks in order. -/
def chunks (c : Fin τ.nSC) (i : Fin τ.nSub) : List (Fin 16) → Prog (TpuEff nD τ sig (Elt F) Λ₀ (.scVector c i)) PUnit
  | [] => pure ⟨⟩
  | j :: js => do
    chunk c i j
    chunks c i js

abbrev lower : List (Fin 16) := [0, 1, 2, 3, 4, 5, 6, 7]
abbrev upper : List (Fin 16) := [8, 9, 10, 11, 12, 13, 14, 15]

/-- The body, regrouped. -/
def task (L : grid0.Coords) : Prog (TpuEff nD τ sig (Elt F) Λ₀ (.scVector ((L 0).castLE hcore0) ((L 1).castLE hsub0))) PUnit := do
  Prog.lift (.enqueueDma pV (.here tTop) (.dma cc0_scratch3.sem) (Memref.isWhole_whole _).wordExact (View.wordExact_bits rfl) ⟨Or.inl rfl, trivial⟩)
  Prog.lift (.enqueueDma (wBlk L) (.here wS) (.dma cc0_scratch4.sem) (View.wordExact_bits rfl) (Memref.isWhole_whole _).wordExact ⟨Or.inl rfl, trivial⟩)
  Prog.lift (.waitDma2 cc0_scratch3.sem pV tTop (Memref.isWhole_whole _).wordExact (View.wordExact_bits rfl))
  Prog.lift (.waitDma2 cc0_scratch4.sem (wBlk L) wS (View.wordExact_bits rfl) (Memref.isWhole_whole _).wordExact)
  chunks _ _ lower
  Prog.lift (.enqueueDma oLo (.here (rLo L)) (.dma cc0_scratch5.sem) (View.wordExact_bits rfl) (View.wordExact_bits rfl) ⟨Or.inl rfl, trivial⟩)
  chunks _ _ upper
  Prog.lift (.enqueueDma oHi (.here (rHi L)) (.dma cc0_scratch5.sem) (View.wordExact_bits rfl) (View.wordExact_bits rfl) ⟨Or.inl rfl, trivial⟩)
  Prog.lift (.waitDma2 cc0_scratch5.sem oLo (rLo' L) (View.wordExact_bits rfl) (View.wordExact_bits rfl))
  Prog.lift (.waitDma2 cc0_scratch5.sem oHi (rHi L) (View.wordExact_bits rfl) (View.wordExact_bits rfl))

/-- The printed body on the task's arrays. -/
abbrev body (L : grid0.Coords) : Prog (TpuEff nD τ sig (Elt F) Λ₀ (.scVector ((L 0).castLE hcore0) ((L 1).castLE hsub0))) PUnit :=
  cc0__gather_body L pV (Memref.isWhole_whole _) wV (Memref.isWhole_whole _) rV (Memref.isWhole_whole _)
    tS (Memref.isWhole_whole _) wS (Memref.isWhole_whole _) oS (Memref.isWhole_whole _) cc0_scratch3 cc0_scratch4 cc0_scratch5

theorem body_eq (L : grid0.Coords) : body (F := F) L = task L := rfl

end Cert.Proof.Lookup

end
-- ==== Proof.Chunk.lean ====
/-
  One chunk of a task's body, run: with the table and the words in its scratch, chunk `j` leaves entries `16 j` to
  `16 j + 15` of the output scratch at what the words name, and what earlier chunks left as it was (`chunk_run`);
  a list of chunks, by induction on it (`chunks_run`).
-/
module

public import proofs.«01_k».proof.Proof.Body

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The function computed -/

/-- Entry `n` of the ten (`n` taken modulo ten, so that every word names one; a word in range names its own). -/
def at10 (n : Nat) : S10.Idx := fun a => ⟨n % S10.size a, Nat.mod_lt _ (by fin_cases a; decide)⟩

theorem at10_self (y : S10.Idx) : at10 (y 0).val = y := by
  funext a; obtain rfl : a = 0 := Subsingleton.elim _ _
  exact Fin.ext (Nat.mod_eq_of_lt (y 0).isLt)

/-- Word `y` names entry `w y` of `p`. -/
def named (p : Vec F S10 .f32) (w : IVec S4096 32) : Vec F S4096 .f32 := fun y => p (at10 (w y).toNat)

/-! ## The setting -/

/-- The handshakes' rounds beside the transfers' counters. -/
abbrev UH : Type := URounds (GSem nD τ sig) ℕ
abbrev UU : Type := UH × Counters

local notation "𝕄" => MT nD τ sig (HIx 1) (Elt F) ℕ UU ℕ

abbrev 𝒱₀ : Variants := Variants.none

variable [FloatOps F] (d : Dev nD) (L : grid0.Coords)

abbrev cV : Fin τ.nSC := (L 0).castLE hcore0
abbrev iV : Fin τ.nSub := (L 1).castLE hsub0
/-- The vector subcore at `L`. -/
abbrev me : Thread nD τ := V d (cV L) (iV L)

/-- Entry `y` of a task's block, as a word of the whole. -/
abbrev place (y : S256.Idx) : S4096.Idx := (wBlk L).view.emb y

/-! ## What the scratch holds -/

variable (p : Vec F S10 .f32) (w : IVec S4096 32)

/-- The table's scratch begins with the ten floats. -/
def HasTable (t : Vec F S16 .f32) : Prop := ∀ y : S16.Idx, (y 0).val < 10 → t y = p (at10 (y 0).val)
/-- The words' scratch is the task's block of the words. -/
def HasWords (s : IVec S256 32) : Prop := ∀ y, s y = w (place L y)
/-- The output scratch is right on chunks `js`. -/
def Right (js : List (Fin 16)) (g : Vec F S256 .f32) : Prop := ∀ j ∈ js, ∀ x : S16.Idx, g ((win j).emb x) = named p w (place L ((win j).emb x))

omit [FloatOps F] in
theorem win_apply (j : Fin 16) (x : S16.Idx) : ((win j).emb x 0).val = 16 * j.val + (x 0).val := by
  rw [Rect.emb_apply]; show 16 * j.val + 1 * (x 0).val = _; rw [Nat.one_mul]

omit [FloatOps F] in
theorem win_ne {j j' : Fin 16} (h : j' ≠ j) (x x' : S16.Idx) : (win j).emb x ≠ (win j').emb x' := by
  intro e
  have e := congrArg (fun z : S256.Idx => (z 0).val) e
  simp only [win_apply] at e
  have h1 : (x 0).val < 16 := (x 0).isLt
  have h2 : (x' 0).val < 16 := (x' 0).isLt
  exact h (Fin.ext (by omega))

/-- The sixteen words a chunk loads. -/
abbrev loaded (s : IVec S256 32) (j : Fin 16) : IVec S16 32 := wS.view.readAt (Elt F) (win j).toLoadRect s

omit [FloatOps F] in
theorem loaded_apply (s : IVec S256 32) (j : Fin 16) (x : S16.Idx) : loaded (F := F) s j x = s ((win j).emb x) := rfl

/-- The sixteen floats a chunk gathers. -/
abbrev gathered (t : Vec F S16 .f32) (v : IVec S16 32) (h : k0_chk1 v) : Vec F S16 .f32 :=
  loadIdx ((tS.access (.whole S16)).read (Elt F) t) ![v] (k0_idx1_inb v h)

omit [FloatOps F] in
theorem gathered_apply (t : Vec F S16 .f32) (v : IVec S16 32) (h : k0_chk1 v) (x : S16.Idx) :
    gathered t v h x = t (fun a => ⟨(v x).toNat, by obtain rfl : a = 0 := Subsingleton.elim _ _; exact h 0 x⟩) := by
  show t ((Rect.whole S16).emb (idxAt ![v] (k0_idx1_inb v h) x)) = _
  rw [Rect.emb_whole_apply]
  congr 1; funext a
  obtain rfl : a = (0 : Fin 1) := Subsingleton.elim _ _
  rfl

/-- The output scratch after a chunk's store. -/
abbrev stored (g : Vec F S256 .f32) (j : Fin 16) (v : Vec F S16 .f32) : Vec F S256 .f32 := (oS.access (win j)).write (Elt F) g v Finset.univ

omit [FloatOps F] in
theorem stored_on (g : Vec F S256 .f32) (j : Fin 16) (v : Vec F S16 .f32) (x : S16.Idx) : stored g j v ((win j).emb x) = v x :=
  View.write_emb_of_mem (v := oS.access (win j)) g v (Finset.mem_univ x)

omit [FloatOps F] in
theorem stored_off (g : Vec F S256 .f32) (j : Fin 16) (v : Vec F S16 .f32) {y : S256.Idx} (h : ∀ x, (win j).emb x ≠ y) : stored g j v y = g y := by
  refine View.write_of_not_mem (v := oS.access (win j)) g v Finset.univ fun hy => ?_
  obtain ⟨x, -, hx⟩ := Finset.mem_map.mp hy
  exact h x hx

/-- The table and the words in their scratch, the output scratch held on `A`. -/
abbrev scratch (t : Vec F S16 .f32) (s : IVec S256 32) (A : Finset S256.Idx) (g : Vec F S256 .f32) : sProp 𝕄 :=
  iprop((tS.view.loc (me d L) ↦{fullShare} t) ∗ (wS.view.loc (me d L) ↦{fullShare} s) ∗ oS.view.loc (me d L) ↦[A]{fullShare} g)

variable {p w L}

omit [FloatOps F] in
/-- The words of a chunk are in range of the table. -/
theorem chk_loaded {s : IVec S256 32} (hs : HasWords L w s) (hw : ∀ y, (w y).toNat < 10) (j : Fin 16) : k0_chk1 (loaded (F := F) s j) := by
  intro a x
  obtain rfl : a = 0 := Subsingleton.elim _ _
  show (loaded (F := F) s j x).toNat < 16
  rw [loaded_apply, hs]
  have := hw (place L ((win j).emb x)); omega

omit [FloatOps F] in
/-- What a chunk leaves: itself right, and what was right. -/
theorem right_stored {t : Vec F S16 .f32} {s : IVec S256 32} {g : Vec F S256 .f32} {js : List (Fin 16)} (ht : HasTable p t) (hs : HasWords L w s)
    (hw : ∀ y, (w y).toNat < 10) (hg : Right L p w js g) (j : Fin 16) (h : k0_chk1 (loaded (F := F) s j)) :
    Right L p w (j :: js) (stored g j (gathered t (loaded (F := F) s j) h)) := by
  have own : ∀ x, stored g j (gathered t (loaded (F := F) s j) h) ((win j).emb x) = named p w (place L ((win j).emb x)) := fun x => by
    rw [stored_on, gathered_apply, ht]
    · show p (at10 (loaded (F := F) s j x).toNat) = _
      rw [loaded_apply, hs]; rfl
    · show (loaded (F := F) s j x).toNat < 10
      rw [loaded_apply, hs]; exact hw _
  intro j' hj' x
  by_cases e : j' = j
  · subst e; exact own x
  · rw [stored_off _ _ _ fun x' => win_ne e x' x]
    exact hg j' ((List.mem_cons.mp hj').resolve_left e) x

/-! ## The run of a chunk -/

theorem chunk_run {t : Vec F S16 .f32} {s : IVec S256 32} {g : Vec F S256 .f32} {A : Finset S256.Idx} {js : List (Fin 16)} (ht : HasTable p t)
    (hs : HasWords L w s) (hw : ∀ y, (w y).toNat < 10) (hg : Right L p w js g) (j : Fin 16) (hj : (win j).set ⊆ A)
    {k : PUnit → Prog (TpuEff nD τ sig (Elt F) Λ₀ (.scVector (cV L) (iV L))) PUnit} {Q : PUnit → sProp 𝕄} :
    scratch d L t s A g
      ⊢ iprop((∀ g', iprop(⌜Right L p w (j :: js) g'⌝ ∗ scratch d L t s A g') -∗ wp frame (wpE (defs₀ (F := F)) 𝒱₀ (me d L) none) Set.univ (k ⟨⟩) Q)
        -∗ wp frame (wpE (defs₀ (F := F)) 𝒱₀ (me d L) none) Set.univ (chunk (cV L) (iV L) j >>= k) Q) := by
  unfold chunk
  simp only [Prog.lift, Prog.bind_op, Prog.bind_ret, Prog.bind_assoc]
  iintro ⟨Ht, Hs, Ho⟩ Hk
  iapply (wp_load 𝒱₀ (me d L) none Set.univ (m := wS) (S := Finset.univ) (Finset.subset_univ _)) $$ Hs; iintro Hs
  rw [wp_assume_of _ _ _ _ (chk_loaded hs hw j)]
  iapply (SparseCore.wp_vectorLoadIdx 𝒱₀ (me d L) none Set.univ (base := tS) (S := Finset.univ) (q := fullShare) (Finset.subset_univ _)) $$ Ht; iintro Ht
  have hA : (oS.access (win j)).set ⊆ A := by
    rw [show (oS.access (win j)).set = (win j).set from View.set_slice_whole cc0_scratch2 (win j)]; exact hj
  iapply (wp_load_rect 𝒱₀ (me d L) none Set.univ (m := oS) (r := win j) (S := A) hA) $$ Ho; iintro Ho
  iapply (wp_store 𝒱₀ (me d L) none Set.univ (m := oS) (r := win j) (Mk := Finset.univ) (S := A) hA) $$ Ho; iintro Ho
  iapply Hk
  isplitr
  · ipureintro; exact right_stored ht hs hw hg j (chk_loaded hs hw j)
  isplitl [Ht]; · iexact Ht
  isplitl [Hs]; · iexact Hs
  iexact Ho

/-- Chunks in order: each right after them. -/
theorem chunks_run {t : Vec F S16 .f32} {s : IVec S256 32} {A : Finset S256.Idx} (ht : HasTable p t)
    (hs : HasWords L w s) (hw : ∀ y, (w y).toNat < 10) {k : PUnit → Prog (TpuEff nD τ sig (Elt F) Λ₀ (.scVector (cV L) (iV L))) PUnit} {Q : PUnit → sProp 𝕄}
    (js : List (Fin 16)) (hj : ∀ j ∈ js, (win j).set ⊆ A) : ∀ {g : Vec F S256 .f32} {before : List (Fin 16)}, Right L p w before g →
    (scratch d L t s A g
      ⊢ iprop((∀ g', iprop(⌜Right L p w (js.reverse ++ before) g'⌝ ∗ scratch d L t s A g')
          -∗ wp frame (wpE (defs₀ (F := F)) 𝒱₀ (me d L) none) Set.univ (k ⟨⟩) Q)
        -∗ wp frame (wpE (defs₀ (F := F)) 𝒱₀ (me d L) none) Set.univ (chunks (cV L) (iV L) js >>= k) Q)) := by
  induction js with
  | nil =>
    intro g before hg
    iintro H Hk
    simp only [chunks, Prog.pure_eq_ret, Prog.bind_ret]
    iapply Hk
    isplitr; · ipureintro; exact hg
    iexact H
  | cons j js ih =>
    intro g before hg
    iintro H Hk
    simp only [chunks, Prog.bind_assoc]
    iapply (chunk_run d ht hs hw hg j (hj j (List.mem_cons_self ..))) $$ H
    iintro %g' ⟨%hg', H⟩
    iapply (ih (fun j hj' => hj j (List.mem_cons_of_mem _ hj')) hg') $$ H
    iintro %g'' ⟨%hg'', H⟩
    iapply Hk
    isplitr; · ipureintro; simpa using hg''
    iexact H

end Cert.Proof.Lookup

end
-- ==== Proof.Task.lean ====
/-
  A task's body, run (`task_run`): from a read share of the ten floats, its block of the words and of the result, and its
  own scratch and counters, it ends with the block of the result at what its words name and the rest as it was. The two
  fetches are transfers each on a counter of its own; the two copies-out share one counter, so they are a batch of two,
  whose deliveries come back together at the second wait.
-/
module

public import proofs.«01_k».proof.Proof.Chunk

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱 : Variants := 𝒱₀.lift
abbrev v₀ : 𝒱.V := Sum.inl none

local notation "𝕄" => MT nD τ sig (HIx 1) (Elt F) ℕ UU ℕ

/-- The transfers' counters, the right factor. -/
abbrev EC : UEmb Counters (MT nD τ sig (HIx 1) (Elt F) ℕ UU ℕ) := countersEmb

/-! ## Locations and blocks -/

abbrev wLoc (d : Dev nD) : Loc nD τ sig := (SparseCore.T d).loc main_arg0
abbrev xLoc (d : Dev nD) : Loc nD τ sig := (SparseCore.T d).loc main_arg1
abbrev pLoc (d : Dev nD) : Loc nD τ sig := (SparseCore.T d).loc main_arg2
abbrev rLoc (d : Dev nD) : Loc nD τ sig := (SparseCore.T d).loc main_v0

theorem hdiv : 16 ∣ S4096.size 0 := ⟨256, rfl⟩
/-- Block `i` of 4096 entries: 256 of them. -/
abbrev blk (i : Fin 16) : Finset S4096.Idx := (Rect.part (s := S4096) (a₀ := 0) hdiv i).set

abbrev jL (L : grid0.Coords) : Fin 16 := Fin.cast (rfl : grid0.bound 1 = 16) (L 1)

theorem mem_blk {i : Fin 16} {y : S4096.Idx} : y ∈ blk i ↔ 256 * i.val ≤ (y 0).val ∧ (y 0).val < 256 * i.val + 256 := by
  refine (LoadRect.mem_set _).trans ?_
  constructor
  · intro h
    obtain ⟨j, hj, e⟩ := h 0
    have hj : j < 256 := hj
    have e : (y 0).val = i.val * 256 + 1 * j := e
    omega
  · intro ⟨h1, h2⟩ a
    obtain rfl : a = 0 := Subsingleton.elim _ _
    refine ⟨(y 0).val - 256 * i.val, (by show _ < 256; omega), (by show (y 0).val = i.val * 256 + 1 * _; omega)⟩

section

variable (L : grid0.Coords)

theorem core_zero : (L 0).val = 0 := by have h : (L 0).val < 1 := (L 0).isLt; omega

theorem off1 : k0_off1 L 0 = 256 * (jL L).val := by rw [k0_off1_eq, core_zero]; rfl
theorem off2 : k0_off2 L 0 = 256 * (jL L).val := by rw [k0_off2_eq, core_zero]; rfl
theorem off3 : k0_off3 L 0 = 256 * (jL L).val + 128 := by rw [k0_off3_eq, core_zero]; rfl

/-- The elements of a unit-stride piece of a rank-one shape. -/
theorem mem_piece {n k : ℕ} {off : Fin 1 → ℕ} {inb : ∀ a, off a + (![k] : Fin 1 → ℕ) a ≤ (⟨1, ![n]⟩ : Shape).size a} {y : (⟨1, ![n]⟩ : Shape).Idx} :
    y ∈ (Rect.unit (s := ⟨1, ![n]⟩) off ![k] inb).set ↔ off 0 ≤ (y 0).val ∧ (y 0).val < off 0 + k := by
  rw [Rect.mem_set_unit]
  exact ⟨fun h => h 0, fun h a => by obtain rfl : a = 0 := Subsingleton.elim _ _; exact h⟩

theorem set_wBlk : (wBlk L).view.set = blk (jL L) := by
  rw [show (wBlk L).view.set = _ from View.set_slice_whole main_arg0_scv _]
  ext y; rw [mem_piece, mem_blk, off1]
theorem set_rLo : (rLo L).view.set = (Rect.unit (s := S4096) (k0_off2 L) S128.size (k0_off2_inb L)).set := View.set_slice_whole main_v0_scv _
theorem set_rHi : (rHi L).view.set = (Rect.unit (s := S4096) (k0_off3 L) S128.size (k0_off3_inb L)).set := View.set_slice_whole main_v0_scv _
theorem set_oLo : (oLo).view.set = (Rect.unit (s := S256) ![0] S128.size inb_S256_S128_0).set := View.set_slice_whole cc0_scratch2 _
theorem set_oHi : (oHi).view.set = (Rect.unit (s := S256) ![128] S128.size inb_S256_S128_128).set := View.set_slice_whole cc0_scratch2 _

theorem rHalves : blk (jL L) = (rLo L).view.set ∪ (rHi L).view.set := by
  rw [set_rLo, set_rHi]; ext y
  rw [Finset.mem_union, mem_piece, mem_piece, mem_blk, off2, off3]; omega
theorem rHalves_disjoint : Disjoint (rLo L).view.set (rHi L).view.set := by
  rw [set_rLo, set_rHi]; refine Finset.disjoint_left.mpr fun y h h' => ?_
  rw [mem_piece, off2] at h; rw [mem_piece, off3] at h'; omega
theorem oHalves : (Finset.univ : Finset S256.Idx) = (oLo).view.set ∪ (oHi).view.set := by
  rw [set_oLo, set_oHi]; ext y
  have h : (y 0).val < 256 := (y 0).isLt
  rw [Finset.mem_union, mem_piece, mem_piece]
  refine iff_of_true (Finset.mem_univ _) ?_
  show 0 ≤ _ ∧ _ < 0 + 128 ∨ 128 ≤ _ ∧ _ < 128 + 128
  omega
theorem oHalves_disjoint : Disjoint (oLo).view.set (oHi).view.set := by
  rw [set_oLo, set_oHi]; refine Finset.disjoint_left.mpr fun y h h' => ?_
  rw [mem_piece] at h h'
  have h : 0 ≤ _ ∧ (y 0).val < 0 + 128 := h
  have h' : 128 ≤ (y 0).val ∧ _ := h'
  omega

theorem win_lower : ∀ j ∈ lower, (win j).set ⊆ (oLo).view.set := fun j hj y hy => by
  rw [set_oLo, mem_piece]; rw [mem_piece] at hy
  have hj : j.val < 8 := (by decide : ∀ j ∈ lower, j.val < 8) j hj
  have hy : 16 * j.val ≤ (y 0).val ∧ (y 0).val < 16 * j.val + 16 := hy
  show 0 ≤ _ ∧ _ < 0 + 128
  omega
theorem win_upper : ∀ j ∈ upper, (win j).set ⊆ (oHi).view.set := fun j hj y hy => by
  rw [set_oHi, mem_piece]; rw [mem_piece] at hy
  have hj : 8 ≤ j.val := (by decide : ∀ j ∈ upper, 8 ≤ j.val) j hj
  have hj' := j.isLt
  have hy : 16 * j.val ≤ (y 0).val ∧ (y 0).val < 16 * j.val + 16 := hy
  show 128 ≤ _ ∧ _ < 128 + 128
  omega

end

/-! ## What the transfers carry -/

section

variable {p : Vec F S10 .f32} {w : IVec S4096 32} {L : grid0.Coords}

/-- A chunk holds each of its entries. -/
theorem right_at {js : List (Fin 16)} {g : Vec F S256 .f32} (hg : Right L p w js g) (y : S256.Idx)
    (hy : (⟨(y 0).val / 16, Nat.div_lt_of_lt_mul (y 0).isLt⟩ : Fin 16) ∈ js) : g y = named p w (place L y) := by
  have e : (win ⟨(y 0).val / 16, Nat.div_lt_of_lt_mul (y 0).isLt⟩).emb (Shape.ofLane (d := ![16]) ⟨(y 0).val % 16, Nat.mod_lt _ (by decide : 0 < 16)⟩) = y := by
    funext a; obtain rfl : a = 0 := Subsingleton.elim _ _
    apply Fin.ext; rw [win_apply]; exact Nat.div_add_mod _ _
  rw [← e]; exact hg _ hy _

theorem place_apply (y : S256.Idx) : (place L y 0).val = 256 * (jL L).val + (y 0).val := by
  show k0_off1 L 0 + 1 * (y 0).val = _
  rw [off1, Nat.one_mul]

/-- The first copy-out carries the lower half of the block. -/
theorem sent_lower {g : Vec F S256 .f32} (hg : Right L p w (lower.reverse ++ []) g) (r : Vec F S4096 .f32) :
    ∀ y ∈ (rLo L).view.set, (rLo L).view.write (Elt F) r ((oLo).view.read (Elt F) g) Finset.univ y = named p w y := by
  intro y hy
  obtain ⟨x, -, rfl⟩ := Finset.mem_map.mp hy
  rw [View.write_emb_of_mem _ _ (Finset.mem_univ x)]
  have hx : (x 0).val < 128 := (x 0).isLt
  have hv : ((oLo).view.emb x 0).val = (x 0).val := by show 0 + 1 * (x 0).val = _; omega
  refine (right_at hg ((oLo).view.emb x) ?_).trans (congrArg (named p w) ?_)
  · have : ∀ j : Fin 16, j.val < 8 → j ∈ lower.reverse ++ [] := by decide
    exact this _ (by show _ / 16 < 8; omega)
  · funext a; obtain rfl : a = (0 : Fin 1) := Subsingleton.elim _ _
    apply Fin.ext; rw [place_apply, hv]
    show _ = k0_off2 L 0 + 1 * (x 0).val
    rw [off2]; omega

/-- The second carries the upper half. -/
theorem sent_upper {js : List (Fin 16)} {g : Vec F S256 .f32} (hg : Right L p w (upper.reverse ++ js) g) (r : Vec F S4096 .f32) :
    ∀ y ∈ (rHi L).view.set, (rHi L).view.write (Elt F) r ((oHi).view.read (Elt F) g) Finset.univ y = named p w y := by
  intro y hy
  obtain ⟨x, -, rfl⟩ := Finset.mem_map.mp hy
  rw [View.write_emb_of_mem _ _ (Finset.mem_univ x)]
  have hx : (x 0).val < 128 := (x 0).isLt
  have hv : ((oHi).view.emb x 0).val = 128 + (x 0).val := by show 128 + 1 * (x 0).val = _; omega
  refine (right_at hg ((oHi).view.emb x) ?_).trans (congrArg (named p w) ?_)
  · have : ∀ j : Fin 16, 8 ≤ j.val → j ∈ upper.reverse := by decide
    exact List.mem_append_left _ (this _ (by show 8 ≤ _ / 16; omega))
  · funext a; obtain rfl : a = (0 : Fin 1) := Subsingleton.elim _ _
    apply Fin.ext; rw [place_apply, hv]
    show _ = k0_off3 L 0 + 1 * (x 0).val
    rw [off3]; omega

/-- The table's fetch fills the first ten entries. -/
theorem table_fetched (t : Vec F S16 .f32) :
    HasTable p ((tTop).view.write (Elt F) t ((pV).view.read (Elt F) p) Finset.univ) := by
  intro y hy
  have e : (tTop).view.emb (Shape.ofLane (d := ![10]) ⟨(y 0).val, hy⟩) = y := by
    funext a; obtain rfl : a = (0 : Fin 1) := Subsingleton.elim (α := Fin 1) _ _
    apply Fin.ext; show 0 + 1 * (y 0).val = _; omega
  conv_lhs => rw [← e]
  rw [View.write_emb_of_mem _ _ (Finset.mem_univ _)]
  exact congrArg p (at10_self (Shape.ofLane (d := ![10]) ⟨(y 0).val, hy⟩)).symm

/-- The words' fetch is the block. -/
theorem words_fetched (s : IVec S256 32) :
    HasWords L w ((wS).view.write (Elt F) s ((wBlk L).view.read (Elt F) w) Finset.univ) := by
  intro y
  rw [show (wS).view.write (Elt F) s ((wBlk L).view.read (Elt F) w) Finset.univ = (wBlk L).view.read (Elt F) w from View.write_whole_univ _ _ _]
  rfl

end

/-! ## The task -/

section Task

variable [FloatOps F] (d : Dev nD) (L : grid0.Coords)

abbrev tCell : GSem nD τ sig := (me d L, .dma cc0_scratch3.sem)
abbrev wCell : GSem nD τ sig := (me d L, .dma cc0_scratch4.sem)
abbrev oCell : GSem nD τ sig := (me d L, .dma cc0_scratch5.sem)

omit [FloatOps F] in
theorem ownSems0_me :
    (ownSems0 (me d L) : sProp 𝕄)
      = iprop(semVal (tCell d L) 0 ∗ semVal (wCell d L) 0 ∗ semVal (oCell d L) 0
          ∗ bigSep ((((ownCells (me d L)).erase (tCell d L)).erase (wCell d L)).erase (oCell d L)) fun g => semVal g 0) := by
  have mine : ∀ s : DmaSem sig, (SemLoc.dma s : SemLoc sig).isScoped .scVector = true → ((me d L, .dma s) : GSem nD τ sig) ∈ ownCells (me d L) :=
    fun s hs => mem_ownCells.mpr ⟨rfl, hs⟩
  have ne : ∀ s s' : DmaSem sig, s ≠ s' → ((me d L, .dma s) : GSem nD τ sig) ≠ (me d L, .dma s') :=
    fun s s' h e => h (SemLoc.dma.inj (Prod.mk.inj e).2)
  unfold SparseCore.Cfg.ownSems0
  rw [SparseCore.bigSep_erase' (mine cc0_scratch3.sem (by decide)),
    SparseCore.bigSep_erase' (Finset.mem_erase.mpr ⟨ne cc0_scratch4.sem cc0_scratch3.sem (by decide), mine cc0_scratch4.sem (by decide)⟩),
    SparseCore.bigSep_erase' (Finset.mem_erase.mpr ⟨ne cc0_scratch5.sem cc0_scratch4.sem (by decide),
      Finset.mem_erase.mpr ⟨ne cc0_scratch5.sem cc0_scratch3.sem (by decide), mine cc0_scratch5.sem (by decide)⟩⟩)]

omit [FloatOps F] in
theorem ownBufs_me :
    (ownBufs (me d L) : sProp 𝕄)
      = iprop((∃ f, (me d L).loc cc0_scratch0 ↦{fullShare} f) ∗ (∃ f, (me d L).loc cc0_scratch1 ↦{fullShare} f) ∗ (∃ f, (me d L).loc cc0_scratch2 ↦{fullShare} f)
          ∗ bigSep ((((ownRefs (τ := τ) (.scVector (cV L) (iV L))).erase ((Proc.scVector (cV L) (iV L)).devRef cc0_scratch0)).erase
              ((Proc.scVector (cV L) (iV L)).devRef cc0_scratch1)).erase ((Proc.scVector (cV L) (iV L)).devRef cc0_scratch2))
              fun b => iprop(∃ f, ((d, b) : Loc nD τ sig) ↦{fullShare} f)) := by
  have mine : ∀ b : Ref sig .scVector, ((Proc.scVector (cV L) (iV L)).devRef b : DevRef τ sig).owner = .proc (.scVector (cV L) (iV L)) →
      (Proc.scVector (cV L) (iV L)).devRef b ∈ ownRefs (τ := τ) (sig := sig) (.scVector (cV L) (iV L)) := fun _ h => SparseCore.Cfg.mem_ownRefs_of_owner h
  have ne : ∀ b b' : Ref sig .scVector, b ≠ b' → (Proc.scVector (cV L) (iV L)).devRef b ≠ (Proc.scVector (cV L) (iV L)).devRef b' :=
    fun _ _ h e => h (Proc.devRef_injective _ e)
  unfold SparseCore.Cfg.ownBufs
  refine (SparseCore.bigSep_erase' (mine cc0_scratch0 rfl)).trans ?_
  rw [SparseCore.bigSep_erase' (Finset.mem_erase.mpr ⟨ne cc0_scratch1 cc0_scratch0 (by decide), mine cc0_scratch1 rfl⟩),
    SparseCore.bigSep_erase' (Finset.mem_erase.mpr ⟨ne cc0_scratch2 cc0_scratch1 (by decide),
      Finset.mem_erase.mpr ⟨ne cc0_scratch2 cc0_scratch0 (by decide), mine cc0_scratch2 rfl⟩⟩)]

/-- The ten floats at share `q`; a block of the words; a block of the result. -/
abbrev pPts (q : PosShare TreeShare) (p : Vec F S10 .f32) : sProp 𝕄 := pLoc d ↦{q} p
abbrev wPts (i : Fin 16) (w : IVec S4096 32) : sProp 𝕄 := wLoc d ↦[blk i]{fullShare} w
abbrev rPts (i : Fin 16) (r : Vec F S4096 .f32) : sProp 𝕄 := rLoc d ↦[blk i]{fullShare} r

/-- What each of the two copies-out delivers: its half of the result's block at what the words name, and the half of the
    output scratch it read. -/
def sent (p : Vec F S10 .f32) (w : IVec S4096 32) : Fin 2 → sProp 𝕄
  | 0 => iprop((rLoc d ↦[(rLo L).view.set]{fullShare} named p w) ∗ ∃ g, oS.view.loc (me d L) ↦[(oLo).view.set]{fullShare} g)
  | 1 => iprop((rLoc d ↦[(rHi L).view.set]{fullShare} named p w) ∗ ∃ g, oS.view.loc (me d L) ↦[(oHi).view.set]{fullShare} g)

instance sent_storable (p : Vec F S10 .f32) (w : IVec S4096 32) : ∀ t, BI.Storable (upEmb : UEmb _ 𝕄) (sent (F := F) d L p w t : sProp 𝕄)
  | 0 => by unfold sent; infer_instance
  | 1 => by unfold sent; infer_instance

/-- A copy-out's credit. -/
abbrev NO : ℕ := (rLo L).view.dmaCredit

/-- The task at `L` on device `d`. -/
theorem task_run (hF : (K (F := F)).Facts) {q : PosShare TreeShare} {p : Vec F S10 .f32} {w : IVec S4096 32} {r : Vec F S4096 .f32} (hw : ∀ y, (w y).toNat < 10)
    (O : CellTallies nD τ sig (HIx 1)) (W : Waits sig (HIx 1)) (hO : ∀ g, O g none = 0) :
    iprop(levAts (K (F := F)).L (K (F := F)).lev ∗ emp
        ∗ (pPts d q p ∗ wPts d (jL L) w ∗ rPts d (jL L) r)
        ∗ scopedBufs (me d L) ∗ scopedSems0 (me d L) ∗ owes (me d L) O W)
      ⊢ wp frame (wpE (defs₀ (F := F)) 𝒱₀ (me d L) none) Set.univ (body L)
          fun _ => iprop((pPts d q p ∗ wPts d (jL L) w ∗ rPts d (jL L) (named p w))
            ∗ scopedBufs (me d L) ∗ scopedSems0 (me d L)
            ∗ ∃ W', ⌜∀ p ∈ W', p ∈ W ∨ p.2 = none⌝ ∗ owes (me d L) O W') := by
  rw [body_eq]; unfold task
  simp only [Prog.lift, Prog.bind_op, Prog.bind_ret]
  rw [(K (F := F)).scopedBufs_V hF d (cV L) (iV L), SparseCore.Cfg.scopedSems0_V (Val := Elt F) d (cV L) (iV L), ownSems0_me, ownBufs_me]
  iintro ⟨#Hlv, -, ⟨Hp, Hw, Hr⟩, ⟨⟨%ft, Ht⟩, ⟨%fs, Hs⟩, ⟨%fo, Ho⟩, Hbufs⟩, ⟨HsemT, HsemW, HsemO, Hsems⟩, HO⟩
  -- the table's fetch
  ihave Hp := (Entails.of_eq (show (pLoc d ↦{q} p : sProp 𝕄) = ((pV).view.loc (me d L) ↦[(pV).view.set]{q} p) by
    simp only [Memref.view_whole, View.set_whole])) $$ Hp
  iapply (Transfers.wp_dmaLocal EC 𝒱₀ (me d L) none (q := q) (fs := p) (Sd := Finset.univ) (fd := ft) (none : HIx 1) _ rfl
    (View.amount_pos _ _ (by decide)) (Finset.subset_univ _)) $$ [Hp Ht HsemT]
  · isplitl [Hp]; · iexact Hp
    isplitl [Ht]; · iexact Ht
    iexact HsemT
  iintro HfT
  -- the words' fetch
  ihave Hw := (Entails.of_eq (show (wLoc d ↦[blk (jL L)]{fullShare} w : sProp 𝕄) = ((wBlk L).view.loc (me d L) ↦[(wBlk L).view.set]{fullShare} w) by
    rw [set_wBlk])) $$ Hw
  iapply (Transfers.wp_dmaLocal EC 𝒱₀ (me d L) none (q := fullShare) (fs := w) (Sd := Finset.univ) (fd := fs) (none : HIx 1) _ rfl
    (View.amount_pos _ _ (by decide)) (Finset.subset_univ _)) $$ [Hw Hs HsemW]
  · isplitl [Hw]; · iexact Hw
    isplitl [Hs]; · iexact Hs
    iexact HsemW
  iintro HfW
  -- their waits
  iapply (Transfers.wp_waitLocalO EC 𝒱₀ (me d L) none (none : HIx 1) rfl (O := O) (W := W)) $$ [HfT HO]
  · isplitl [HfT]; · iexact HfT
    isplitl [HO]; · iexact HO
    iapply ((K (F := F)).mayWait_none (SemLoc.dma cc0_scratch3.sem) hO); iexact Hlv
  iintro ⟨⟨Ht, Hp⟩, HsemT, HO⟩
  iapply (Transfers.wp_waitLocalO EC 𝒱₀ (me d L) none (none : HIx 1) rfl (O := O) (W := insert (SemLoc.dma cc0_scratch3.sem, none) W)) $$ [HfW HO]
  · isplitl [HfW]; · iexact HfW
    isplitl [HO]; · iexact HO
    iapply ((K (F := F)).mayWait_none (SemLoc.dma cc0_scratch4.sem) hO); iexact Hlv
  iintro ⟨⟨Hs, Hw⟩, HsemW, HO⟩
  -- the output scratch and the result's block in halves
  ihave Ho := (Entails.of_eq (show ((me d L).loc cc0_scratch2 ↦{fullShare} fo : sProp 𝕄)
      = (oS.view.loc (me d L) ↦[(oLo).view.set ∪ (oHi).view.set]{fullShare} fo) by rw [← oHalves])) $$ Ho
  ihave Ho := (pointsTo_union oHalves_disjoint).1 $$ Ho
  icases Ho with ⟨Hlo, Hhi⟩
  ihave Hr := (Entails.of_eq (show (rPts d (jL L) r : sProp 𝕄)
      = (rLoc d ↦[(rLo L).view.set ∪ (rHi L).view.set]{fullShare} r) by rw [← rHalves])) $$ Hr
  ihave Hr := (pointsTo_union (rHalves_disjoint L)).1 $$ Hr
  icases Hr with ⟨Hrlo, Hrhi⟩
  -- the lower chunks
  have ht := table_fetched (p := p) ft
  have hs := words_fetched (F := F) (w := w) (L := L) fs
  iapply (chunks_run d ht hs hw lower win_lower (g := fo) (before := []) (fun _ h => nomatch h)) $$ [Ht Hs Hlo]
  · isplitl [Ht]; · iexact Ht
    isplitl [Hs]; · iexact Hs
    iexact Hlo
  iintro %g₀ ⟨%hg₀, Ht, Hs, Hlo⟩
  -- the first copy-out
  imod (Transfers.batch_alloc' EC (me d L) (none : HIx 1) (NO L) (sent (F := F) d L p w)) $$ HsemO with HB
  iapply (Transfers.wp_dmaBatch EC 𝒱₀ (me d L) none (D := sent (F := F) d L p w) (src := oLo) (dst := rLo L) (q := fullShare) (fs := g₀) (Sd := (rLo L).view.set) (fd := r) (none : HIx 1) (NO L) rfl
    (Finset.Subset.refl _) (show 0 < 2 by decide) (Nat.zero_le _) ?hlo) $$ [Hlo Hrlo HB]
  case hlo =>
    refine BIClass.sep_mono (Entails.of_eq (pointsTo_congr (sent_lower hg₀ r))) ?_
    show _ ⊢ (iprop(∃ g, oS.view.loc (me d L) ↦[(oLo).view.set]{fullShare} g) : sProp 𝕄)
    iintro H
    iexists g₀; iexact H
  · isplitl [Hlo]; · iexact Hlo
    isplitl [Hrlo]; · iexact Hrlo
    iexact HB
  iintro HB
  -- the upper chunks
  iapply (chunks_run d ht hs hw upper win_upper (g := fo) (before := []) (fun _ h => nomatch h)) $$ [Ht Hs Hhi]
  · isplitl [Ht]; · iexact Ht
    isplitl [Hs]; · iexact Hs
    iexact Hhi
  iintro %g₁ ⟨%hg₁, Ht, Hs, Hhi⟩
  -- the second copy-out
  iapply (Transfers.wp_dmaBatch EC 𝒱₀ (me d L) none (D := sent (F := F) d L p w) (src := oHi) (dst := rHi L) (q := fullShare) (fs := g₁) (Sd := (rHi L).view.set) (fd := r) (none : HIx 1) (NO L) rfl
    (Finset.Subset.refl _) (show 1 < 2 by decide) (Nat.zero_le _) ?hhi) $$ [Hhi Hrhi HB]
  case hhi =>
    refine BIClass.sep_mono (Entails.of_eq (pointsTo_congr (sent_upper hg₁ r))) ?_
    show _ ⊢ (iprop(∃ g, oS.view.loc (me d L) ↦[(oHi).view.set]{fullShare} g) : sProp 𝕄)
    iintro H
    iexists g₁; iexact H
  · isplitl [Hhi]; · iexact Hhi
    isplitl [Hrhi]; · iexact Hrhi
    iexact HB
  iintro HB
  -- the two waits: nothing from the first, both halves from the second
  have hN : 0 < NO L := View.dmaCredit_pos _ (by decide)
  iapply (Transfers.wp_waitBatchO EC 𝒱₀ (me d L) none (srcw := oLo) (dstw := rLo' L) (hsrc := View.wordExact_bits rfl) (hdst := View.wordExact_bits rfl) (none : HIx 1) (D := sent (F := F) d L p w) (N := NO L) rfl (u := 0) (by omega) (O := O)
    (W := insert (SemLoc.dma cc0_scratch4.sem, none) (insert (SemLoc.dma cc0_scratch3.sem, none) W))) $$ [HB HO]
  · isplitl [HB]; · iexact HB
    isplitl [HO]; · iexact HO
    iapply ((K (F := F)).mayWait_none (SemLoc.dma cc0_scratch5.sem) hO); iexact Hlv
  iintro ⟨HB, HO⟩
  iapply (Transfers.wp_waitBatchLastO EC 𝒱₀ (me d L) none (srcw := oHi) (dstw := rHi L) (hsrc := View.wordExact_bits rfl) (hdst := View.wordExact_bits rfl) (none : HIx 1) (D := sent (F := F) d L p w) (N := NO L) rfl hN (u := 0 + NO L) (by omega) (O := O)
    (W := insert (SemLoc.dma cc0_scratch5.sem, none) (insert (SemLoc.dma cc0_scratch4.sem, none) (insert (SemLoc.dma cc0_scratch3.sem, none) W)))) $$ [HB HO]
  · isplitl [HB]; · iexact HB
    isplitl [HO]; · iexact HO
    iapply ((K (F := F)).mayWait_none (SemLoc.dma cc0_scratch5.sem) hO); iexact Hlv
  iintro ⟨HD, HsemO, HO⟩
  ihave HD := (Entails.of_eq (show (bigSep Finset.univ (sent (F := F) d L p w) : sProp 𝕄) = iprop(sent d L p w 0 ∗ sent d L p w 1) by
    rw [show (Finset.univ : Finset (Fin 2)) = {0, 1} by decide, SparseCore.bigSep_insert' (by decide), bigSep_singleton])) $$ HD
  unfold sent
  icases HD with ⟨⟨Hrlo, %h₀, Hlo⟩, Hrhi, %h₁, Hhi⟩
  rw [wp_ret]; imodintro
  isplitl [Hp Hw Hrlo Hrhi]
  · isplitl [Hp]
    · iapply (Entails.of_eq (show ((pV).view.loc (me d L) ↦[(pV).view.set]{q} p : sProp 𝕄) = pPts d q p by
        simp only [Memref.view_whole, View.set_whole])); iexact Hp
    isplitl [Hw]
    · iapply (Entails.of_eq (show ((wBlk L).view.loc (me d L) ↦[(wBlk L).view.set]{fullShare} w : sProp 𝕄) = wPts d (jL L) w by
        rw [set_wBlk])); iexact Hw
    · iapply (Entails.of_eq (show (rLoc d ↦[(rLo L).view.set ∪ (rHi L).view.set]{fullShare} named p w : sProp 𝕄) = rPts d (jL L) (named p w) by rw [← rHalves]))
      iapply (pointsTo_union (rHalves_disjoint L)).2
      isplitl [Hrlo] <;> iassumption
  isplitl [Ht Hs Hlo Hhi Hbufs]
  · isplitl [Ht]; · iexists _; iexact Ht
    isplitl [Hs]; · iexists _; iexact Hs
    isplitl [Hlo Hhi]
    · ihave H := (pointsTo_join (ℓ := (me d L).loc cc0_scratch2) (q := fullShare) (f := h₀) (g := h₁) oHalves_disjoint) $$ [Hlo Hhi]
      · isplitl [Hlo] <;> iassumption
      iexists _
      rw [oHalves]
      iexact H
    · iexact Hbufs
  isplitl [HsemT HsemW HsemO Hsems]
  · isplitl [HsemT]; · iexact HsemT
    isplitl [HsemW]; · iexact HsemW
    isplitl [HsemO]; · iexact HsemO
    iexact Hsems
  iexists _; isplitr
  rotate_left
  · iexact HO
  · ipureintro; intro x hx
    simp only [Finset.mem_insert] at hx
    rcases hx with rfl | rfl | rfl | rfl | hx
    · exact .inr rfl
    · exact .inr rfl
    · exact .inr rfl
    · exact .inr rfl
    · exact .inl hx

end Task

end Cert.Proof.Lookup

end
-- ==== Proof.Launch.lean ====
/-
  The whole program, run (`run_main`): from a memory whose words are below ten, every weakly fair execution ends, nothing
  faulting, the three arguments as they were, every counter at zero, and the result at the entry each word
  names. One call, whose sixteen tasks each take a read share of the ten floats and a block of 256 of the words and of
  the result; the blocks tile the arrays and the shares make up the whole.
-/
module

public import proofs.«01_k».proof.Proof.Task

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

/-- The handshakes' rounds, the left factor. -/
abbrev EH : Emb UH (MT nD τ sig (HIx 1) (Elt F) ℕ UU ℕ) := embL

variable (m : (ℓ : Loc nD τ sig) → Buf (Elt F) ℓ) (ρ : Dev nD → PrngReg)

/-- The ten floats, the words, the result of device `d` in memory `m`; the result the program leaves. -/
abbrev ps (d : Dev nD) : Vec F S10 .f32 := m (pLoc d)
abbrev ws (d : Dev nD) : IVec S4096 32 := m (wLoc d)
abbrev rs (d : Dev nD) : Vec F S4096 .f32 := m (rLoc d)
abbrev goal (d : Dev nD) : Vec F S4096 .f32 := named (ps m d) (ws m d)

/-- What the proof asks of the launch memory: every word below ten. -/
def PreOK : Prop := ∀ (d : Dev nD) (y : S4096.Idx), (ws m d y).toNat < 10

variable [FloatOps F]

/-! ## What the handshakes carry -/

abbrev nSub_zero : (K (F := F)).nSub 0 = 16 := rfl

/-- Task `i`'s share of the ten floats. -/
abbrev share (i : Fin 16) : PosShare TreeShare := Transfers.shareTok fullShare 16 i

abbrev wAll (d : Dev nD) : sProp 𝕄 := wLoc d ↦{fullShare} ws m d
abbrev rAll (d : Dev nD) (r : Vec F S4096 .f32) : sProp 𝕄 := rLoc d ↦{fullShare} r

/-- A task's, with `r` the result's contents. -/
abbrev tasks (d : Dev nD) (r : Vec F S4096 .f32) (i : Fin 16) : sProp 𝕄 := iprop(pPts d (share i) (ps m d) ∗ wPts d i (ws m d) ∗ rPts d i r)
/-- The call's. -/
abbrev call (d : Dev nD) (r : Vec F S4096 .f32) : sProp 𝕄 := iprop(pPts d fullShare (ps m d) ∗ wAll m d ∗ rAll d r)

def P : (K (F := F)).Pay (nD := nD) (Val := Elt F) (Name := ℕ) (U := UU) where
  st := fun q d _ => match q with | 0 => call m d (rs m d)
  dn := fun q d _ => match q with | 0 => call m d (goal m d)
  go := fun q d _ i => match q with | 0 => tasks m d (rs m d) (Fin.cast nSub_zero i)
  td := fun q d _ i => match q with | 0 => tasks m d (goal m d) (Fin.cast nSub_zero i)
  x := fun _ _ => iprop(emp)

instance P_storable : (P (F := F) m).IsStorable where
  st q d _ := match q with | 0 => (inferInstance : BI.Storable (upEmb : UEmb _ 𝕄) (call m d (rs m d)))
  dn q d _ := match q with | 0 => (inferInstance : BI.Storable (upEmb : UEmb _ 𝕄) (call m d (goal m d)))
  go q d _ i := match q with | 0 => (inferInstance : BI.Storable (upEmb : UEmb _ 𝕄) (tasks m d (rs m d) (Fin.cast nSub_zero i)))
  td q d _ i := match q with | 0 => (inferInstance : BI.Storable (upEmb : UEmb _ 𝕄) (tasks m d (goal m d) (Fin.cast nSub_zero i)))

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s => body (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (task_run d (coordsV ⟨_, hc.1⟩ ⟨_, hc.2⟩) facts (hpre d) O W hO).trans (wp_mono frame _ _ fun _ => obl_post)

omit [FloatOps F] in
theorem blocks_disjoint : ∀ i ∈ (Finset.univ : Finset (Fin 16)), ∀ j ∈ (Finset.univ : Finset (Fin 16)), i ≠ j → Disjoint (blk i) (blk j) :=
  fun _ _ _ _ h => Rect.part_disjoint hdiv h
omit [FloatOps F] in
theorem blocks_cover : (Finset.univ : Finset (Fin 16)).biUnion blk = Finset.univ := Rect.biUnion_part hdiv

omit [FloatOps F] in
theorem wAll_blocks (d : Dev nD) : (wAll m d : sProp 𝕄) = bigSep Finset.univ fun i : Fin 16 => wPts d i (ws m d) := by
  rw [← pointsTo_biUnion Finset.univ (ℓ := wLoc d) blk blocks_disjoint, blocks_cover]; try rfl
omit [FloatOps F] in
theorem rAll_blocks (d : Dev nD) (r : Vec F S4096 .f32) : (rAll d r : sProp 𝕄) = bigSep Finset.univ fun i : Fin 16 => rPts d i r := by
  rw [← pointsTo_biUnion Finset.univ (ℓ := rLoc d) blk blocks_disjoint, blocks_cover]; try rfl

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The call's arrays dealt to the tasks, and back from them. -/
theorem vecSplit : (K (F := F)).VecSplit' (P m) 0 := by
  intro d c
  show call m d (rs m d) ⊢ |={Set.univ}=> iprop(
      (bigSep Finset.univ fun i : Fin ((K (F := F)).nSub 0) => tasks m d (rs m d) (Fin.cast nSub_zero i))
      ∗ ((bigSep Finset.univ fun i : Fin ((K (F := F)).nSub 0) => tasks m d (goal m d) (Fin.cast nSub_zero i)) -∗ call m d (goal m d)))
  rw [bigSep_tasks (F := F) (fun i => tasks m d (rs m d) i), bigSep_tasks (F := F) (fun i => tasks m d (goal m d) i),
    bigSep_sep', bigSep_sep', bigSep_sep', bigSep_sep', ← wAll_blocks, ← rAll_blocks, ← rAll_blocks]
  iintro ⟨Hp, Hw, Hr⟩
  ihave Hp := (Transfers.pointsTo_toks_split (ℓ := pLoc d) (S := Finset.univ) (f := ps m d) fullShare 16) $$ Hp
  icases Hp with ⟨Hrest, Hp⟩
  imodintro
  isplitl [Hp Hw Hr]
  · isplitl [Hp]; · iexact Hp
    isplitl [Hw]; · iexact Hw
    iexact Hr
  iintro ⟨Hp, Hw, Hr⟩
  isplitl [Hrest Hp]
  · iapply (Transfers.pointsTo_toks_join (ℓ := pLoc d) (S := Finset.univ) (f := ps m d) fullShare 16)
    isplitl [Hrest] <;> iassumption
  isplitl [Hw]; · iexact Hw
  iexact Hr

/-! ## The launch element: the handshakes' rounds; the counters start empty -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev xAll (d : Dev nD) : sProp 𝕄 := xLoc d ↦{fullShare} m (xLoc d)

omit [FloatOps F] in
theorem unscopedBufs_eq (d : Dev nD) (W : (b : Ref sig .tc) → Buf (Elt F) ((d.tc : Thread nD τ).loc b)) :
    (unscopedBufs d W : sProp 𝕄) = iprop((wLoc d ↦{fullShare} W main_arg0) ∗ (xLoc d ↦{fullShare} W main_arg1) ∗ (pLoc d ↦{fullShare} W main_arg2)
      ∗ rLoc d ↦{fullShare} W main_v0) := by
  unfold unscopedBufs
  rw [show (Finset.univ.filter fun b : Ref sig .tc => ¬ b.isScoped) = {main_arg0, main_arg1, main_arg2, main_v0} by decide,
    SparseCore.bigSep_insert' (by decide), SparseCore.bigSep_insert' (by decide), SparseCore.bigSep_insert' (by decide), bigSep_singleton]

theorem st0_eq (d : Dev nD) : (bigSep Finset.univ fun c : Fin ((K (F := F)).nCore 0) => (P m).st 0 d c) = call m d (rs m d) :=
  bigSep_univ_of_subsingleton (0 : Fin 1)
theorem dn0_eq (d : Dev nD) : (bigSep Finset.univ fun c : Fin ((K (F := F)).nCore 0) => (P m).dn 0 d c) = call m d (goal m d) :=
  bigSep_univ_of_subsingleton (0 : Fin 1)

abbrev FIN (d : Dev nD) : sProp 𝕄 := iprop(xAll m d ∗ call m d (goal m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hw, Hx, Hp, Hr⟩, Hts, -⟩, -⟩
  iapply ((K (F := F)).wp_run (D (F := F)) 𝒱 (EH := EH) (P := P m) κ d 0) $$ [Hst Hw Hp Hr Hb Hts Hx]
  isplitr; · iexact Hctx
  isplitl [Hst]; · iexact Hst
  isplitl [Hw Hp Hr]
  · rw [st0_eq]
    isplitl [Hp]; · iexact Hp
    isplitl [Hw]; · iexact Hw
    iexact Hr
  iintro ⟨Hst, Hdn⟩
  ihave Hdn := (Entails.of_eq (dn0_eq m d)) $$ Hdn
  imodintro
  isplitl [Hst]; · iexact Hst
  isplitr [Hb Hts]
  · isplitl [Hx]; · iexact Hx
    iexact Hdn
  isplitl [Hb] <;> iassumption

def fq (d : Dev nD) (s' : Phys nD τ sig (Elt F)) : Prop :=
  s'.mem.mem (wLoc d) = m (wLoc d) ∧ s'.mem.mem (xLoc d) = m (xLoc d) ∧ s'.mem.mem (pLoc d) = m (pLoc d) ∧ s'.mem.mem (rLoc d) = goal m d

omit [FloatOps F] in
/-- An array held whole is what memory holds. -/
theorem read_off {s' : Phys nD τ sig (Elt F)} (ℓ : Loc nD τ sig) (f : Buf (Elt F) ℓ) :
    iprop((ℓ ↦{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun i => h i (Finset.mem_univ i)
  · iexact HSI

theorem hfin (d : Dev nD) (s' : Phys nD τ sig (Elt F)) : iprop(FIN m d ∗ SI s') ⊢ (⌜fq m d s'⌝ : sProp 𝕄) := by
  iintro ⟨⟨Hx, Hp, Hw, Hr⟩, HSI⟩
  ihave H := (read_off (xLoc d) _) $$ [Hx HSI]
  · isplitl [Hx] <;> iassumption
  icases H with ⟨%hx, HSI⟩
  ihave H := (read_off (pLoc d) _) $$ [Hp HSI]
  · isplitl [Hp] <;> iassumption
  icases H with ⟨%hp, HSI⟩
  ihave H := (read_off (wLoc d) _) $$ [Hw HSI]
  · isplitl [Hw] <;> iassumption
  icases H with ⟨%hw, HSI⟩
  ihave H := (read_off (rLoc d) _) $$ [Hr HSI]
  · isplitl [Hr] <;> iassumption
  icases H with ⟨%hr, -⟩
  ipureintro; exact ⟨hw, hx, hp, hr⟩

/-! ## The program's run -/

def QC : PUnit × MemSt nD τ sig (Elt F) → Prop := fun r =>
  (∀ c : Dev nD, r.2.mem (wLoc c) = m (wLoc c) ∧ r.2.mem (xLoc c) = m (xLoc c) ∧ r.2.mem (pLoc c) = m (pLoc c) ∧ r.2.mem (rLoc c) = goal m c)
    ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Lookup

end
-- ==== Proof.Take.lean ====
/-
  The reference's run read as a lookup: `jnp.take` of ten floats at 4096 words, each below ten, is the entry each word
  names. The host adds ten to a negative word, gathers, and puts a NaN where the word is out of range: on words below
  ten the first changes nothing and the last never happens. And what the precondition says: every word is below ten.
-/
module

public import proofs.«01_k».proof.Proof.Chunk
public import proofs.«01_k».proof.Proof.Gen.ReferenceIdeal.Run
public import Idealize.ShloMosaic.Lib.ValueIdxCore
public import Idealize.ShloMosaic.Lib.Quiescent

@[expose] public section

noncomputable section

namespace Cert.Proof.Lookup

open Idealize.ShloMosaic Idealize.SL.Sem

/-! ## An "and" over many bits -/

theorem andi_one (a b : BitVec 1) : IntOp.andi a b = 1#1 ↔ a = 1#1 ∧ b = 1#1 := by revert a b; decide

theorem foldl_andi {ι : Type} (x : ι → BitVec 1) (l : List ι) (b : BitVec 1) :
    l.foldl (fun r n => IntOp.andi r (x n)) b = 1#1 ↔ b = 1#1 ∧ ∀ n ∈ l, x n = 1#1 := by
  induction l generalizing b with
  | nil => simp
  | cons a l ih => rw [List.foldl_cons, ih, andi_one, List.forall_mem_cons, and_assoc]

/-- The "and" along some axes is one where every bit it takes in is. -/
theorem reduce_andi {s t u : Shape} {axes : List (Fin s.rank)} (x : IVec s 1) (h : s.ReducesTo axes t) (hu : 0 < u.numel) (j : t.Idx) :
    Host.reduce IntOp.andi x (constantI u 1 1#1) h hu j = 1#1 ↔ ∀ i, h.drop i = j → x i = 1#1 := by
  refine (foldl_andi _ _ _).trans ⟨fun H i hi => ?_, fun H => ⟨rfl, fun n hn => H _ (by simpa using hn)⟩⟩
  have := H.2 (s.rowMajor i) (by simpa using hi)
  rwa [Equiv.symm_apply_apply] at this

/-! ## The words' comparisons -/

/-- A word from 0 to 9 as a signed integer is below ten. -/
theorem word_lt {v : BitVec 32} (h0 : IntOp.cmpi .sge v 0#32 = 1#1) (h1 : IntOp.cmpi .slt v 10#32 = 1#1) : v.toNat < 10 := by
  have bit : ∀ b : Bool, BitVec.ofBool b = 1#1 → b = true := by decide
  have h0 := bit _ h0; have h1 := bit _ h1
  simp only [BitVec.sle_eq_decide, BitVec.slt_eq_decide, decide_eq_true_eq, BitVec.toInt_eq_toNat_cond, BitVec.toNat_ofNat, Nat.reducePow,
    Nat.reduceMod] at h0 h1
  omega

/-- A word below ten is no negative number, is at least zero, is at most nine, and is its own signed value. -/
theorem lt_word {v : BitVec 32} (h : v.toNat < 10) :
    IntOp.cmpi .slt v 0#32 = 0#1 ∧ IntOp.cmpi .sge v 0#32 = 1#1 ∧ IntOp.cmpi .sle v 9#32 = 1#1 ∧ v.toInt.toNat = v.toNat := by
  obtain ⟨n, hn, rfl⟩ : ∃ n : Nat, n < 10 ∧ v = BitVec.ofNat 32 n := ⟨v.toNat, h, by simp⟩
  clear h; revert n; decide

/-- What the precondition says. -/
theorem words_of_pre {F : FTy → Type} [FloatOps F] [Cert.Pre_in_range.Facts] {w : IVec Cert.KernelIdeal.S4096 32} {x : FVec F Cert.KernelIdeal.S4096 .f32} {p : FVec F Cert.KernelIdeal.S10 .f32}
    (h : Cert.Pre_in_range.fn (F := F) w x p = fun _ => 1#1) (y : Cert.KernelIdeal.S4096.Idx) : (w y).toNat < 10 := by
  have h := (andi_one _ _).1 (congrFun h (fun a => a.elim0))
  exact word_lt ((reduce_andi _ _ _ _).1 h.1 y (Subsingleton.elim _ _)) ((reduce_andi _ _ _ _).1 h.2 y (Subsingleton.elim _ _))

/-! ## The gather -/

open Cert.ReferenceIdeal Cert.ReferenceIdeal.Gen in
/-- The gather at word `y`: the entry the word names, where it names one. -/
theorem gather_at {α : Type} (x : S10.Idx → α) (ix : IVec S4096x1 32) (y : S4096.Idx) (k : S4096x1.Idx) (hk : ∀ a, (k a).val = ![(y 0).val, 0] a)
    (h : (ix k).toInt.toNat < 10) :
    Host.gather gather_S10_S4096x1_S4096_n_0_n_n_0_1_1 x ix y = x (at10 (ix k).toInt.toNat) := by
  refine congrArg x (funext fun a => Fin.ext ?_)
  obtain rfl : a = 0 := Subsingleton.elim (α := Fin 1) _ _
  set d := gather_S10_S4096x1_S4096_n_0_n_n_0_1_1 with hd
  have hm : (0 : Fin 1) ∈ d.startIndexMap := List.mem_singleton.mpr rfl
  show d.start y ix 0 + d.batchCoord y 0 + d.offCoord y 0 = _
  rw [d.batchCoord_eq_zero _ _ List.not_mem_nil,
    d.offCoord_eq_zero _ _ fun h => ((d.mem_sKept _).mp h).1 (List.mem_singleton.mpr rfl)]
  show d.start y ix 0 = (ix k).toInt.toNat % 10
  rw [Nat.mod_eq_of_lt h]
  unfold GatherDims.start
  rw [dif_pos hm, show d.siIdx y ⟨List.idxOf (0 : Fin 1) d.startIndexMap, List.idxOf_lt_length_iff.2 hm⟩ = k from ?_]
  · show min (ix k).toInt.toNat (10 - 1) = (ix k).toInt.toNat
    omega
  · funext b
    refine Fin.ext (Eq.trans ?_ (hk b).symm)
    match b with
    | ⟨0, _⟩ => rfl
    | ⟨1, _⟩ => rfl

variable {F : FTy → Type} [FloatOps F]

open Cert.ReferenceIdeal Cert.ReferenceIdeal.Gen in
/-- What the host leaves in the result. -/
abbrev taken (p : Vec F S10 .f32) (w : IVec S4096 32) : Vec F S4096 .f32 :=
  let fixed := select (cmpi .slt w (broadcastInDim S4096 ![] bcast_S_S4096 (constantI S_ 32 0#32))) (addi w (broadcastInDim S4096 ![] bcast_S_S4096 (constantI S_ 32 10#32))) w
  let col := broadcastInDim S4096x1 ![0] bcast_S4096_S4096x1_0 fixed
  select (Host.reduce IntOp.andi (andi (cmpi .sge col (broadcastInDim S4096x1 ![] bcast_S_S4096x1 (constantI S_ 32 0#32)))
      (cmpi .sle col (broadcastInDim S4096x1 ![0, 1] bcast_S1x1_S4096x1_0_1 (broadcastInDim S1x1 ![1] bcast_S1_S1x1_1 (constantI S1 32 9#32)))))
      (constantI S_ 1 1#1) reducesTo_S4096x1_S4096_d1 h_S_)
    (Host.gather gather_S10_S4096x1_S4096_n_0_n_n_0_1_1 p col) (broadcastInDim S4096 ![] bcast_S_S4096 (constant S_ .f32 0x7FC00000#32))

open Cert.ReferenceIdeal Cert.ReferenceIdeal.Gen in
theorem taken_eq {p : Vec F S10 .f32} {w : IVec S4096 32} (hw : ∀ y, (w y).toNat < 10) : taken p w = named p w := by
  have hfix : select (cmpi .slt w (broadcastInDim S4096 ![] bcast_S_S4096 (constantI S_ 32 0#32))) (addi w (broadcastInDim S4096 ![] bcast_S_S4096 (constantI S_ 32 10#32))) w = w := by
    funext y
    show Scalar.select (IntOp.cmpi .slt (w y) 0#32) _ (w y) = w y
    rw [(lt_word (hw y)).1, ValueIdx.select_zero]
  unfold taken
  rw [hfix]
  funext y
  have hcol : ∀ k : S4096x1.Idx, ∃ z, broadcastInDim S4096x1 ![0] bcast_S4096_S4096x1_0 w k = w z := fun k => ⟨_, rfl⟩
  refine Eq.trans (congrArg (fun b => Scalar.select b _ _) ((reduce_andi _ _ _ y).2 fun k _ => ?_)) ?_
  · obtain ⟨z, hz⟩ := hcol k
    refine (andi_one _ _).2 ?_
    show IntOp.cmpi .sge (broadcastInDim S4096x1 ![0] bcast_S4096_S4096x1_0 w k) 0#32 = 1#1 ∧ IntOp.cmpi .sle (broadcastInDim S4096x1 ![0] bcast_S4096_S4096x1_0 w k) 9#32 = 1#1
    rw [hz]
    exact ⟨(lt_word (hw z)).2.1, (lt_word (hw z)).2.2.1⟩
  · rw [ValueIdx.select_one]
    let k : S4096x1.Idx := fun a => match a with | ⟨0, _⟩ => y 0 | ⟨1, _⟩ => (⟨0, Nat.one_pos⟩ : Fin 1)
    have hk : broadcastInDim S4096x1 ![0] bcast_S4096_S4096x1_0 w k = w y := by
      refine congrArg w (funext fun a => ?_)
      obtain rfl : a = 0 := Subsingleton.elim (α := Fin 1) _ _
      rfl
    have hv := (lt_word (hw y)).2.2.2
    rw [gather_at p _ y k (fun a => match a with | ⟨0, _⟩ => rfl | ⟨1, _⟩ => rfl) (by rw [hk, hv]; exact hw y)]
    rw [hk, hv]; rfl

end Cert.Proof.Lookup

end
-- ==== Proof.lean ====
/-
  The proof of `Cert.Claim` (proofs.«01_k».proof.Defs). The kernel's run (Proof/Launch.lean) and the reference's value
  (Proof/Take.lean) are each proved once, over any float values; every claim is one of them, or the two put together, read
  at the machine's floats or at the extended reals.
-/
module

public import proofs.«01_k».proof.Defs
public import proofs.«01_k».proof.Proof.Launch
public import proofs.«01_k».proof.Proof.Take
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Gen.Pre_in_range
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Proof.Lookup

instance : Cert.Kernel.Facts := Cert.Kernel.Gen.facts
instance : Cert.Reference.Facts := Cert.Reference.Gen.facts
instance : Cert.Pre_in_range.Facts := Cert.Pre_in_range.Gen.facts

section Reference

open Cert.ReferenceIdeal

variable {F : FTy → Type} [FloatOps F] (m : (ℓ : Loc nD τ sig) → Buf (Elt F) ℓ) (ρ : Dev nD → PrngReg)

/-- The reference's run, its program holding no counter: the arguments as they were. -/
theorem reference_frame : θ_run (defs (F := F)) (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0 :=
  (θ_run defs _ _).mono (fun r h => ⟨fun c => (h c).2, sem_eq_zero_of_no_sems (by decide) r.2⟩) (Cert.ReferenceIdeal.Value.run m ρ)

/-- The reference's run, its words below ten: the result at the entry each word names. -/
theorem reference_value (hw : ∀ (c : Dev nD) y, (m ((c.tc : Thread nD τ).loc main_arg0) y : BitVec 32).toNat < 10) :
    θ_run (defs (F := F)) (onTc (τ := τ) (main (F := F))) ⟨m, fun _ => 0, ρ⟩ fun r => ∀ c : Dev nD,
      r.2.mem ((c.tc : Thread nD τ).loc main_v0) = named (F := F) (m ((c.tc : Thread nD τ).loc main_arg2)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (taken_eq (hw c)), (h c).2⟩) (Cert.ReferenceIdeal.Value.run m ρ)

end Reference

section Both

open Cert.KernelIdeal

variable {F : FTy → Type} [FloatOps F] [∀ e, Nonempty (Elt F e)] (m : (ℓ : Loc nD τ sig) → Buf (Elt F) ℓ) (ρ : Dev nD → PrngReg)

/-- The kernel's run: the arguments as they were, every counter at zero. -/
theorem kernel_frame (hw : PreOK m) : θ_run (defs (F := F)) (threads (F := F)) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0 :=
  (θ_run defs _ _).mono (fun _ h => ⟨fun c => ⟨(h.1 c).1, (h.1 c).2.1, (h.1 c).2.2.1⟩, h.2⟩) (run_main m ρ hw)

/-- The two programs from memories that agree on the arguments: the same result, the entry each word names. -/
theorem same_result (hw : PreOK m) (m' : (ℓ : Loc Cert.ReferenceIdeal.nD Cert.ReferenceIdeal.τ Cert.ReferenceIdeal.sig) → Buf (Elt F) ℓ)
    (ρ' : Dev Cert.ReferenceIdeal.nD → PrngReg)
    (hm : ∀ c : Dev nD,
      m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)) :
    ∃ v : (c : Dev nD) → Buf (Elt F) ((c.tc : Thread nD τ).loc main_v0),
      θ_run (defs (F := F)) (threads (F := F)) ⟨m, fun _ => 0, ρ⟩ (fun r => ∀ c : Dev nD,
          r.2.mem ((c.tc : Thread nD τ).loc main_v0) = v c
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2))
      ∧ θ_run (Cert.ReferenceIdeal.defs (F := F)) (onTc (τ := Cert.ReferenceIdeal.τ) (Cert.ReferenceIdeal.main (F := F))) ⟨m', fun _ => 0, ρ'⟩ (fun r => ∀ c : Dev nD,
          r.2.mem ((c.tc : Thread Cert.ReferenceIdeal.nD Cert.ReferenceIdeal.τ).loc Cert.ReferenceIdeal.main_v0) = v c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)) := by
  refine ⟨goal m, (θ_run defs _ _).mono (fun _ h c => ⟨(h.1 c).2.2.2, (h.1 c).1, (h.1 c).2.1, (h.1 c).2.2.1⟩) (run_main m ρ hw), ?_⟩
  have hw' (c : Dev nD) (y) : (m' ((c.tc : Thread Cert.ReferenceIdeal.nD Cert.ReferenceIdeal.τ).loc Cert.ReferenceIdeal.main_arg0) y : BitVec 32).toNat < 10 :=
    (congrArg (fun w : IVec S4096 32 => (w y).toNat) (hm c).1).trans_lt (hw c y)
  exact (θ_run Cert.ReferenceIdeal.defs _ _).mono (fun _ h c => ⟨(h c).1.trans (congrArg₂ (named (F := F)) (hm c).2.2 (hm c).1), (h c).2⟩)
    (reference_value m' ρ' hw')

end Both

/-- The kernel's frame, at the machine's floats. -/
theorem frame_kernel : Cert.quiescent_Kernel := fun m ρ h => kernel_frame (F := Bits) m ρ fun d => words_of_pre (h d)
/-- The kernel's frame, at the extended reals. -/
theorem frame_kernelIdeal : Cert.quiescent_KernelIdeal := fun m ρ h => kernel_frame (F := Ideal) m ρ fun d => words_of_pre (h d)
/-- The reference's frame, at the extended reals, whatever the words. -/
theorem frame_referenceIdeal : Cert.quiescent_ReferenceIdeal := fun m ρ _ => reference_frame (F := Ideal) m ρ
/-- The same under the range of the words, which the value claims assume. -/
theorem frame_referenceIdeal_in_range : Cert.quiescent_ReferenceIdeal_pre_in_range := fun m ρ _ => reference_frame (F := Ideal) m ρ
/-- The reference's frame, at the machine's floats. -/
theorem frame_reference : Cert.quiescent_Reference := fun m ρ _ => reference_frame (F := Bits) m ρ
/-- Kernel and reference compute the same over the extended reals. -/
theorem algebraic : Cert.algebraic_KernelIdeal_ReferenceIdeal := fun m ρ m' ρ' h hm => same_result (F := Ideal) m ρ (fun d => words_of_pre (h d)) m' ρ' hm
/-- Kernel and reference compute the same words. -/
theorem bitexact : Cert.bitexact_Kernel_Reference := fun m ρ m' ρ' h hm => same_result (F := Bits) m ρ (fun d => words_of_pre (h d)) m' ρ' hm

/-- Everything the certificate claims. -/
theorem claim : Cert.Claim := ⟨Cert.Kernel.Gen.facts, Cert.KernelIdeal.Gen.facts, Cert.ReferenceIdeal.Gen.facts, Cert.Reference.Gen.facts, Cert.Pre_in_range.Gen.facts,
  frame_kernel, frame_kernelIdeal, frame_referenceIdeal, frame_referenceIdeal_in_range, frame_reference, trivial, algebraic, bitexact⟩

end Cert.Proof

end
